-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed [hPre_finite_and_routed : Cert.Pre_finite_and_routed.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_and_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_and_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_and_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_and_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_and_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_and_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_and_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed [hPre_finite_and_routed : Cert.Pre_finite_and_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_and_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_and_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_and_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_and_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_and_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_and_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_and_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_and_routed [hKernelIdeal : Cert.KernelIdeal.Facts] [hPre_finite_and_routed : Cert.Pre_finite_and_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_and_routed [hReferenceIdeal : Cert.ReferenceIdeal.Facts] [hPre_finite_and_routed : Cert.Pre_finite_and_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_and_routed [hKernelIdeal : Cert.KernelIdeal.Facts] [hReferenceIdeal : Cert.ReferenceIdeal.Facts] [hPre_finite_and_routed : Cert.Pre_finite_and_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_and_routed : Cert.Pre_finite_and_routed.Facts),
    quiescent_Kernel (hKernel := hKernel)
    ∧ quiescent_KernelIdeal (hKernelIdeal := hKernelIdeal)
    ∧ quiescent_KernelIdeal_pre_finite_and_routed (hKernelIdeal := hKernelIdeal) (hPre_finite_and_routed := hPre_finite_and_routed)
    ∧ quiescent_ReferenceIdeal (hReferenceIdeal := hReferenceIdeal)
    ∧ quiescent_ReferenceIdeal_pre_finite_and_routed (hReferenceIdeal := hReferenceIdeal) (hPre_finite_and_routed := hPre_finite_and_routed)
    ∧ preserves_Kernel_KernelIdeal
    ∧ algebraic_KernelIdeal_ReferenceIdeal_pre_finite_and_routed (hKernelIdeal := hKernelIdeal) (hReferenceIdeal := hReferenceIdeal) (hPre_finite_and_routed := hPre_finite_and_routed)
-- ==== Pre_finite_and_routed.lean ====
abbrev S64x64x128 : Shape := ⟨3, ![64, 64, 128]⟩
abbrev S64x128 : Shape := ⟨2, ![64, 128]⟩
abbrev S64x192 : Shape := ⟨2, ![64, 192]⟩
abbrev S64 : Shape := ⟨1, ![64]⟩
abbrev S8x256x64 : Shape := ⟨3, ![8, 256, 64]⟩
abbrev S8x64 : Shape := ⟨2, ![8, 64]⟩
abbrev S_ : Shape := ⟨0, ![]⟩

class Facts : Prop where
  bcast_S_S64x64x128 : S_.BroadcastsInDim S64x64x128 (![] : Fin 0 → Fin S64x64x128.rank)
  bcast_S_S64x128 : S_.BroadcastsInDim S64x128 (![] : Fin 0 → Fin S64x128.rank)
  bcast_S_S64x192 : S_.BroadcastsInDim S64x192 (![] : Fin 0 → Fin S64x192.rank)
  bcast_S_S8x256x64 : S_.BroadcastsInDim S8x256x64 (![] : Fin 0 → Fin S8x256x64.rank)

variable [Facts]

def fn_part2 {F : FTy → Type} [FloatOps F] (main_arg10 : FVec F S8x256x64 .f32) (main_v4 : IVec S64x64x128 1) (main_v9 : IVec S64x64x128 1) (main_v14 : IVec S64x64x128 1) (main_v19 : IVec S64x128 1) (main_v24 : IVec S64x192 1) (main_v29 : IVec S64x192 1) (main_v31 : IVec S8x256x64 1) (main_v33 : IVec S8x256x64 1) : IVec S64x64x128 1 × IVec S64x64x128 1 × IVec S64x64x128 1 × IVec S64x128 1 × IVec S64x192 1 × IVec S64x192 1 × IVec S8x256x64 1 × IVec S8x256x64 1 :=
  let main_v34 : IVec S8x256x64 1 := andi main_v31 main_v33
  let main_cst_12 : FVec F S_ .f32 := constant S_ .f32 0x7F800000#32
  let main_v35 : FVec F S8x256x64 .f32 := broadcastInDim S8x256x64 ![] bcast_S_S8x256x64 main_cst_12
  let main_v36 : IVec S8x256x64 1 := cmpf .olt main_arg10 main_v35
  let main_cst_13 : FVec F S_ .f32 := constant S_ .f32 0xFF800000#32
  let main_v37 : FVec F S8x256x64 .f32 := broadcastInDim S8x256x64 ![] bcast_S_S8x256x64 main_cst_13
  let main_v38 : IVec S8x256x64 1 := cmpf .ogt main_arg10 main_v37
  let main_v39 : IVec S8x256x64 1 := andi main_v36 main_v38
  (main_v4, main_v9, main_v14, main_v19, main_v24, main_v29, main_v34, main_v39)

def fn_part1 {F : FTy → Type} [FloatOps F] (main_arg3 : IVec S64x128 32) (main_arg4 : FVec F S64x192 .f32) (main_arg6 : FVec F S64x192 .f32) (main_arg8 : FVec F S8x256x64 .f32) (main_arg10 : FVec F S8x256x64 .f32) (main_v4 : IVec S64x64x128 1) (main_v9 : IVec S64x64x128 1) (main_v14 : IVec S64x64x128 1) (main_v16 : IVec S64x128 1) : IVec S64x64x128 1 × IVec S64x64x128 1 × IVec S64x64x128 1 × IVec S64x128 1 × IVec S64x192 1 × IVec S64x192 1 × IVec S8x256x64 1 × IVec S8x256x64 1 :=
  let main_c_5 : IVec S_ 32 := constantI S_ 32 8#32
  let main_v17 : IVec S64x128 32 := broadcastInDim S64x128 ![] bcast_S_S64x128 main_c_5
  let main_v18 : IVec S64x128 1 := cmpi .slt main_arg3 main_v17
  let main_v19 : IVec S64x128 1 := andi main_v16 main_v18
  let main_cst_6 : FVec F S_ .f32 := constant S_ .f32 0x7F800000#32
  let main_v20 : FVec F S64x192 .f32 := broadcastInDim S64x192 ![] bcast_S_S64x192 main_cst_6
  let main_v21 : IVec S64x192 1 := cmpf .olt main_arg4 main_v20
  let main_cst_7 : FVec F S_ .f32 := constant S_ .f32 0xFF800000#32
  let main_v22 : FVec F S64x192 .f32 := broadcastInDim S64x192 ![] bcast_S_S64x192 main_cst_7
  let main_v23 : IVec S64x192 1 := cmpf .ogt main_arg4 main_v22
  let main_v24 : IVec S64x192 1 := andi main_v21 main_v23
  let main_cst_8 : FVec F S_ .f32 := constant S_ .f32 0x7F800000#32
  let main_v25 : FVec F S64x192 .f32 := broadcastInDim S64x192 ![] bcast_S_S64x192 main_cst_8
  let main_v26 : IVec S64x192 1 := cmpf .olt main_arg6 main_v25
  let main_cst_9 : FVec F S_ .f32 := constant S_ .f32 0xFF800000#32
  let main_v27 : FVec F S64x192 .f32 := broadcastInDim S64x192 ![] bcast_S_S64x192 main_cst_9
  let main_v28 : IVec S64x192 1 := cmpf .ogt main_arg6 main_v27
  let main_v29 : IVec S64x192 1 := andi main_v26 main_v28
  let main_cst_10 : FVec F S_ .f32 := constant S_ .f32 0x7F800000#32
  let main_v30 : FVec F S8x256x64 .f32 := broadcastInDim S8x256x64 ![] bcast_S_S8x256x64 main_cst_10
  let main_v31 : IVec S8x256x64 1 := cmpf .olt main_arg8 main_v30
  let main_cst_11 : FVec F S_ .f32 := constant S_ .f32 0xFF800000#32
  let main_v32 : FVec F S8x256x64 .f32 := broadcastInDim S8x256x64 ![] bcast_S_S8x256x64 main_cst_11
  let main_v33 : IVec S8x256x64 1 := cmpf .ogt main_arg8 main_v32
  fn_part2 (F := F) main_arg10 main_v4 main_v9 main_v14 main_v19 main_v24 main_v29 main_v31 main_v33

def fn {F : FTy → Type} [FloatOps F] (main_arg0 : FVec F S64x64x128 .f32) (main_arg1 : FVec F S64x64x128 .f32) (main_arg2 : FVec F S64x64x128 .f32) (main_arg3 : IVec S64x128 32) (main_arg4 : FVec F S64x192 .f32) (main_arg5 : FVec F S64 .f32) (main_arg6 : FVec F S64x192 .f32) (main_arg7 : FVec F S64 .f32) (main_arg8 : FVec F S8x256x64 .f32) (main_arg9 : FVec F S8x64 .f32) (main_arg10 : FVec F S8x256x64 .f32) (main_arg11 : FVec F S8x64 .f32) : IVec S64x64x128 1 × IVec S64x64x128 1 × IVec S64x64x128 1 × IVec S64x128 1 × IVec S64x192 1 × IVec S64x192 1 × IVec S8x256x64 1 × IVec S8x256x64 1 :=
  let main_cst : FVec F S_ .f32 := constant S_ .f32 0x7F800000#32
  let main_v0 : FVec F S64x64x128 .f32 := broadcastInDim S64x64x128 ![] bcast_S_S64x64x128 main_cst
  let main_v1 : IVec S64x64x128 1 := cmpf .olt main_arg0 main_v0
  let main_cst_0 : FVec F S_ .f32 := constant S_ .f32 0xFF800000#32
  let main_v2 : FVec F S64x64x128 .f32 := broadcastInDim S64x64x128 ![] bcast_S_S64x64x128 main_cst_0
  let main_v3 : IVec S64x64x128 1 := cmpf .ogt main_arg0 main_v2
  let main_v4 : IVec S64x64x128 1 := andi main_v1 main_v3
  let main_cst_1 : FVec F S_ .f32 := constant S_ .f32 0x7F800000#32
  let main_v5 : FVec F S64x64x128 .f32 := broadcastInDim S64x64x128 ![] bcast_S_S64x64x128 main_cst_1
  let main_v6 : IVec S64x64x128 1 := cmpf .olt main_arg1 main_v5
  let main_cst_2 : FVec F S_ .f32 := constant S_ .f32 0xFF800000#32
  let main_v7 : FVec F S64x64x128 .f32 := broadcastInDim S64x64x128 ![] bcast_S_S64x64x128 main_cst_2
  let main_v8 : IVec S64x64x128 1 := cmpf .ogt main_arg1 main_v7
  let main_v9 : IVec S64x64x128 1 := andi main_v6 main_v8
  let main_cst_3 : FVec F S_ .f32 := constant S_ .f32 0x7F800000#32
  let main_v10 : FVec F S64x64x128 .f32 := broadcastInDim S64x64x128 ![] bcast_S_S64x64x128 main_cst_3
  let main_v11 : IVec S64x64x128 1 := cmpf .olt main_arg2 main_v10
  let main_cst_4 : FVec F S_ .f32 := constant S_ .f32 0xFF800000#32
  let main_v12 : FVec F S64x64x128 .f32 := broadcastInDim S64x64x128 ![] bcast_S_S64x64x128 main_cst_4
  let main_v13 : IVec S64x64x128 1 := cmpf .ogt main_arg2 main_v12
  let main_v14 : IVec S64x64x128 1 := andi main_v11 main_v13
  let main_c : IVec S_ 32 := constantI S_ 32 0#32
  let main_v15 : IVec S64x128 32 := broadcastInDim S64x128 ![] bcast_S_S64x128 main_c
  let main_v16 : IVec S64x128 1 := cmpi .sge main_arg3 main_v15
  fn_part1 (F := F) main_arg3 main_arg4 main_arg6 main_arg8 main_arg10 main_v4 main_v9 main_v14 main_v16
-- ==== Kernel.lean ====
abbrev S64x64x128 : Shape := ⟨3, ![64, 64, 128]⟩
abbrev S64x128 : Shape := ⟨2, ![64, 128]⟩
abbrev S64x192 : Shape := ⟨2, ![64, 192]⟩
abbrev S64 : Shape := ⟨1, ![64]⟩
abbrev S8x256x64 : Shape := ⟨3, ![8, 256, 64]⟩
abbrev S8x64 : Shape := ⟨2, ![8, 64]⟩
abbrev S64x8192 : Shape := ⟨2, ![64, 8192]⟩
abbrev S192x8192 : Shape := ⟨2, ![192, 8192]⟩
abbrev S1x8192 : Shape := ⟨2, ![1, 8192]⟩
abbrev S64x1 : Shape := ⟨2, ![64, 1]⟩
abbrev S128x8192 : Shape := ⟨2, ![128, 8192]⟩
abbrev S192x4096 : Shape := ⟨2, ![192, 4096]⟩
abbrev S1x4096 : Shape := ⟨2, ![1, 4096]⟩
abbrev S128x4096 : Shape := ⟨2, ![128, 4096]⟩
abbrev S193x1024 : Shape := ⟨2, ![193, 1024]⟩
abbrev S1x256x64 : Shape := ⟨3, ![1, 256, 64]⟩
abbrev S256x64 : Shape := ⟨2, ![256, 64]⟩
abbrev S64x64 : Shape := ⟨2, ![64, 64]⟩
abbrev S192x64 : Shape := ⟨2, ![192, 64]⟩
abbrev S1x64 : Shape := ⟨2, ![1, 64]⟩
abbrev S193x64 : Shape := ⟨2, ![193, 64]⟩
abbrev S193x128 : Shape := ⟨2, ![193, 128]⟩
abbrev S193x4096 : Shape := ⟨2, ![193, 4096]⟩
abbrev S1024x4096 : Shape := ⟨2, ![1024, 4096]⟩
abbrev S2x64x64x128 : Shape := ⟨4, ![2, 64, 64, 128]⟩

abbrev nBuf : Space → Nat
  | .hbm => 23
  | .vmem => 15
  | .smem => 0
  | _ => 0

abbrev bufTy : (tb : Table) → Fin (tcTables nBuf tb) → BufTy
  | .hbm, ⟨0, _⟩ => ⟨S64x64x128, .f32⟩
  | .hbm, ⟨1, _⟩ => ⟨S64x64x128, .f32⟩
  | .hbm, ⟨2, _⟩ => ⟨S64x64x128, .f32⟩
  | .hbm, ⟨3, _⟩ => ⟨S64x128, .i32⟩
  | .hbm, ⟨4, _⟩ => ⟨S64x192, .f32⟩
  | .hbm, ⟨5, _⟩ => ⟨S64, .f32⟩
  | .hbm, ⟨6, _⟩ => ⟨S64x192, .f32⟩
  | .hbm, ⟨7, _⟩ => ⟨S64, .f32⟩
  | .hbm, ⟨8, _⟩ => ⟨S8x256x64, .f32⟩
  | .hbm, ⟨9, _⟩ => ⟨S8x64, .f32⟩
  | .hbm, ⟨10, _⟩ => ⟨S8x256x64, .f32⟩
  | .hbm, ⟨11, _⟩ => ⟨S8x64, .f32⟩
  | .hbm, ⟨12, _⟩ => ⟨S64x8192, .f32⟩
  | .hbm, ⟨13, _⟩ => ⟨S64x8192, .f32⟩
  | .hbm, ⟨14, _⟩ => ⟨S64x8192, .f32⟩
  | .hbm, ⟨15, _⟩ => ⟨S192x8192, .f32⟩
  | .hbm, ⟨16, _⟩ => ⟨S192x8192, .bf16⟩
  | .hbm, ⟨17, _⟩ => ⟨S1x8192, .i32⟩
  | .hbm, ⟨18, _⟩ => ⟨S64x1, .f32⟩
  | .hbm, ⟨19, _⟩ => ⟨S64x1, .f32⟩
  | .hbm, ⟨20, _⟩ => ⟨S128x8192, .bf16⟩
  | .hbm, ⟨21, _⟩ => ⟨S128x8192, .f32⟩
  | .hbm, ⟨22, _⟩ => ⟨S2x64x64x128, .f32⟩
  | .local _ .vmem, ⟨0, _⟩ => ⟨S192x4096, .bf16⟩
  | .local _ .vmem, ⟨1, _⟩ => ⟨S192x4096, .bf16⟩
  | .local _ .vmem, ⟨2, _⟩ => ⟨S1x4096, .i32⟩
  | .local _ .vmem, ⟨3, _⟩ => ⟨S1x4096, .i32⟩
  | .local _ .vmem, ⟨4, _⟩ => ⟨S8x256x64, .f32⟩
  | .local _ .vmem, ⟨5, _⟩ => ⟨S8x256x64, .f32⟩
  | .local _ .vmem, ⟨6, _⟩ => ⟨S8x64, .f32⟩
  | .local _ .vmem, ⟨7, _⟩ => ⟨S8x64, .f32⟩
  | .local _ .vmem, ⟨8, _⟩ => ⟨S64x192, .f32⟩
  | .local _ .vmem, ⟨9, _⟩ => ⟨S64x192, .f32⟩
  | .local _ .vmem, ⟨10, _⟩ => ⟨S64x1, .f32⟩
  | .local _ .vmem, ⟨11, _⟩ => ⟨S64x1, .f32⟩
  | .local _ .vmem, ⟨12, _⟩ => ⟨S128x4096, .bf16⟩
  | .local _ .vmem, ⟨13, _⟩ => ⟨S128x4096, .bf16⟩
  | .local _ .vmem, ⟨14, _⟩ => ⟨S193x1024, .bf16⟩
  | _, _ => ⟨S64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S192x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S64x64x128 : Shape := ⟨3, ![64, 64, 128]⟩
abbrev S64x128 : Shape := ⟨2, ![64, 128]⟩
abbrev S64x192 : Shape := ⟨2, ![64, 192]⟩
abbrev S64 : Shape := ⟨1, ![64]⟩
abbrev S8x256x64 : Shape := ⟨3, ![8, 256, 64]⟩
abbrev S8x64 : Shape := ⟨2, ![8, 64]⟩
abbrev S64x8192 : Shape := ⟨2, ![64, 8192]⟩
abbrev S192x8192 : Shape := ⟨2, ![192, 8192]⟩
abbrev S64x1 : Shape := ⟨2, ![64, 1]⟩
abbrev S256x8192 : Shape := ⟨2, ![256, 8192]⟩
abbrev S8192x256 : Shape := ⟨2, ![8192, 256]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8x64x8192 : Shape := ⟨3, ![8, 64, 8192]⟩
abbrev S8x8192x64 : Shape := ⟨3, ![8, 8192, 64]⟩
abbrev S8x1x64 : Shape := ⟨3, ![8, 1, 64]⟩
abbrev S8192x64 : Shape := ⟨2, ![8192, 64]⟩
abbrev S1x64x64x128 : Shape := ⟨4, ![1, 64, 64, 128]⟩
abbrev S2x64x64x128 : Shape := ⟨4, ![2, 64, 64, 128]⟩

abbrev nBuf : Space → Nat
  | .hbm => 56
  | .vmem => 0
  | .smem => 0
  | _ => 0

abbrev bufTy : (tb : Table) → Fin (tcTables nBuf tb) → BufTy
  | .hbm, ⟨0, _⟩ => ⟨S64x64x128, .f32⟩
  | .hbm, ⟨1, _⟩ => ⟨S64x64x128, .f32⟩
  | .hbm, ⟨2, _⟩ => ⟨S64x64x128, .f32⟩
  | .hbm, ⟨3, _⟩ => ⟨S64x128, .i32⟩
  | .hbm, ⟨4, _⟩ => ⟨S64x192, .f32⟩
  | .hbm, ⟨5, _⟩ => ⟨S64, .f32⟩
  | .hbm, ⟨6, _⟩ => ⟨S64x192, .f32⟩
  | .hbm, ⟨7, _⟩ => ⟨S64, .f32⟩
  | .hbm, ⟨8, _⟩ => ⟨S8x256x64, .f32⟩
  | .hbm, ⟨9, _⟩ => ⟨S8x64, .f32⟩
  | .hbm, ⟨10, _⟩ => ⟨S8x256x64, .f32⟩
  | .hbm, ⟨11, _⟩ => ⟨S8x64, .f32⟩
  | .hbm, ⟨12, _⟩ => ⟨S64x8192, .f32⟩
  | .hbm, ⟨13, _⟩ => ⟨S64x8192, .f32⟩
  | .hbm, ⟨14, _⟩ => ⟨S64x8192, .f32⟩
  | .hbm, ⟨15, _⟩ => ⟨S192x8192, .f32⟩
  | .hbm, ⟨16, _⟩ => ⟨S64x8192, .f32⟩
  | .hbm, ⟨17, _⟩ => ⟨S64x1, .f32⟩
  | .hbm, ⟨18, _⟩ => ⟨S64x8192, .f32⟩
  | .hbm, ⟨19, _⟩ => ⟨S64x8192, .f32⟩
  | .hbm, ⟨20, _⟩ => ⟨S64x8192, .f32⟩
  | .hbm, ⟨21, _⟩ => ⟨S64x1, .f32⟩
  | .hbm, ⟨22, _⟩ => ⟨S64x8192, .f32⟩
  | .hbm, ⟨23, _⟩ => ⟨S64x8192, .f32⟩
  | .hbm, ⟨24, _⟩ => ⟨S256x8192, .f32⟩
  | .hbm, ⟨25, _⟩ => ⟨S8192x256, .f32⟩
  | .hbm, ⟨26, _⟩ => ⟨S256x8192, .f32⟩
  | .hbm, ⟨27, _⟩ => ⟨S8192x256, .f32⟩
  | .hbm, ⟨28, _⟩ => ⟨S8192, .i32⟩
  | .hbm, ⟨29, _⟩ => ⟨S8192x1, .i32⟩
  | .hbm, ⟨30, _⟩ => ⟨S1x8, .i32⟩
  | .hbm, ⟨31, _⟩ => ⟨S8192x8, .i32⟩
  | .hbm, ⟨32, _⟩ => ⟨S8192x8, .i32⟩
  | .hbm, ⟨33, _⟩ => ⟨S8192x8, .i1⟩
  | .hbm, ⟨34, _⟩ => ⟨S8192x8, .f32⟩
  | .hbm, ⟨35, _⟩ => ⟨S8x64x8192, .f32⟩
  | .hbm, ⟨36, _⟩ => ⟨S8x8192x64, .f32⟩
  | .hbm, ⟨37, _⟩ => ⟨S8x1x64, .f32⟩
  | .hbm, ⟨38, _⟩ => ⟨S8x8192x64, .f32⟩
  | .hbm, ⟨39, _⟩ => ⟨S8x8192x64, .f32⟩
  | .hbm, ⟨40, _⟩ => ⟨S8x64x8192, .f32⟩
  | .hbm, ⟨41, _⟩ => ⟨S8x8192x64, .f32⟩
  | .hbm, ⟨42, _⟩ => ⟨S8x1x64, .f32⟩
  | .hbm, ⟨43, _⟩ => ⟨S8x8192x64, .f32⟩
  | .hbm, ⟨44, _⟩ => ⟨S8x8192x64, .f32⟩
  | .hbm, ⟨45, _⟩ => ⟨S8192x64, .f32⟩
  | .hbm, ⟨46, _⟩ => ⟨S8192x64, .f32⟩
  | .hbm, ⟨47, _⟩ => ⟨S64x8192, .f32⟩
  | .hbm, ⟨48, _⟩ => ⟨S64x8192, .f32⟩
  | .hbm, ⟨49, _⟩ => ⟨S64x64x128, .f32⟩
  | .hbm, ⟨50, _⟩ => ⟨S64x8192, .f32⟩
  | .hbm, ⟨51, _⟩ => ⟨S64x8192, .f32⟩
  | .hbm, ⟨52, _⟩ => ⟨S64x64x128, .f32⟩
  | .hbm, ⟨53, _⟩ => ⟨S1x64x64x128, .f32⟩
  | .hbm, ⟨54, _⟩ => ⟨S1x64x64x128, .f32⟩
  | .hbm, ⟨55, _⟩ => ⟨S2x64x64x128, .f32⟩
  | _, _ => ⟨S64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.Columns.lean ====
module

public import proofs.«01_k».proof.Proof.Gen.KernelIdeal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

/-- One expert's slab of the ratio weights, as the body cuts it out of the whole table. -/
def slab (e : ℕ) (h : S8x256x64.Slices ![e, 0, 0] S1x256x64) (W : FVec Ideal S8x256x64 .f32) : FVec Ideal S256x64 .f32 :=
  shapeCast S256x64 (extractStridedSlice S1x256x64 ![e, 0, 0] W h) shapeCasts_S1x256x64_S256x64

/-- One expert's bias row. -/
def biasRow (e : ℕ) (h : S8x64.Slices ![e, 0] S1x64) (B : FVec Ideal S8x64 .f32) : FVec Ideal S1x64 .f32 :=
  extractStridedSlice S1x64 ![e, 0] B h

/-- The composed weights of one expert for one output group. -/
def half (R : FVec Ideal S256x64 .f32) (b : FVec Ideal S1x64 .f32) (wb : FVec Ideal S64x192 .f32) (bb : FVec Ideal S64x1 .f32) :
    FVec Ideal S193x64 .f32 :=
  concatenate S193x64 0
    [⟨S192x64, addf (addf
        (concatenate S192x64 0 [⟨S64x64, extractStridedSlice S64x64 ![128, 0] R slices_S256x64_o128_0_S64x64⟩,
          ⟨S64x64, extractStridedSlice S64x64 ![192, 0] R slices_S256x64_o192_0_S64x64⟩,
          ⟨S64x64, extractStridedSlice S64x64 ![64, 0] R slices_S256x64_o64_0_S64x64⟩]
          concatenates_S64x64_S64x64_S64x64_S192x64_d0)
        (transpose S192x64 [1, 0] wb transposes_S64x192_p1_0_S192x64))
        (matmul dot_S64x192_S64x64_S192x64_0_0_1_1_n_n none wb
          (extractStridedSlice S64x64 ![0, 0] R slices_S256x64_o0_0_S64x64) (constant S192x64 .f32 0x00000000#32))⟩,
     ⟨S1x64, addf (addf (transpose S1x64 [1, 0] bb transposes_S64x1_p1_0_S1x64)
        (matmul dot_S64x1_S64x64_S1x64_0_0_1_1_n_n none bb
          (extractStridedSlice S64x64 ![0, 0] R slices_S256x64_o0_0_S64x64) (constant S1x64 .f32 0x00000000#32))) b⟩]
    concatenates_S192x64_S1x64_S193x64_d0

/-- One store into the weights scratch: an expert's columns for the first output group, then for the second. -/
def tile (RQ RS : FVec Ideal S256x64 .f32) (rQ rS : FVec Ideal S1x64 .f32) (wQ wS : FVec Ideal S64x192 .f32) (bQ bS : FVec Ideal S64x1 .f32) :
    FVec Ideal S193x128 .bf16 :=
  shapeCast S193x128
    (concatenate S193x128 1
      [⟨S193x64, truncf .bf16 (half RQ rQ wQ (shapeCast S64x1 bQ shapeCasts_S64x1_S64x1)) bitsLt_bf16_f32⟩,
       ⟨S193x64, truncf .bf16 (half RS rS wS (shapeCast S64x1 bS shapeCasts_S64x1_S64x1)) bitsLt_bf16_f32⟩]
      concatenates_S193x64_S193x64_S193x128_d1)
    shapeCasts_S193x128_S193x128

/-- What an expert adds to channel `k`'s base weight directly: the channel's own row of the ratio weights. -/
def share (W : FVec Ideal S8x256x64 .f32) (e : Fin 8) (z : Fin 64) (k : Fin 192) : EReal :=
  if h : (k : ℕ) < 64 then W (ix3 e ⟨128 + k, by omega⟩ z)
  else if h' : (k : ℕ) - 64 < 64 then W (ix3 e ⟨192 + (k - 64), by omega⟩ z)
  else W (ix3 e ⟨64 + (k - 64 - 64), by omega⟩ z)

/-- The composed weight of output channel `z` and input channel `k` for one expert. -/
def weight (W : FVec Ideal S8x256x64 .f32) (wb : FVec Ideal S64x192 .f32) (e : Fin 8) (z : Fin 64) (k : Fin 192) : EReal :=
  share W e z k + wb (ix2 z k) + ∑ n : Fin 64, wb (ix2 n k) * W (ix3 e ⟨n, by omega⟩ z)

/-- The composed bias of output channel `z` for one expert. -/
def bias (W : FVec Ideal S8x256x64 .f32) (r : FVec Ideal S8x64 .f32) (b : FVec Ideal S64x1 .f32) (e : Fin 8) (z : Fin 64) : EReal :=
  b (ix2 z 0) + ∑ n : Fin 64, b (ix2 n 0) * W (ix3 e ⟨n, by omega⟩ z) + r (ix2 e z)

/-- A column of the scratch: the 192 weights, then the bias. -/
def column (W : FVec Ideal S8x256x64 .f32) (r : FVec Ideal S8x64 .f32) (wb : FVec Ideal S64x192 .f32) (b : FVec Ideal S64x1 .f32)
    (e : Fin 8) (z : Fin 64) (k : Fin 193) : EReal :=
  if h : (k : ℕ) < 192 then weight W wb e z ⟨k, h⟩ else bias W r b e z

/-- The whole scratch: 128 columns for each expert, 64 for each output group. -/
def weights (WQ WS : FVec Ideal S8x256x64 .f32) (rQ rS : FVec Ideal S8x64 .f32) (wQ wS : FVec Ideal S64x192 .f32) (bQ bS : FVec Ideal S64x1 .f32) :
    FVec Ideal S193x1024 .bf16 := fun y =>
  have hy : (y 1 : ℕ) < 1024 := (y 1).isLt
  if h : (y 1 : ℕ) % 128 < 64 then column WQ rQ wQ bQ ⟨(y 1 : ℕ) / 128, by omega⟩ ⟨(y 1 : ℕ) % 128, h⟩ (y 0)
  else column WS rS wS bS ⟨(y 1 : ℕ) / 128, by omega⟩ ⟨(y 1 : ℕ) % 128 - 64, by omega⟩ (y 0)

theorem slab_at (e : Fin 8) (h : S8x256x64.Slices ![(e : ℕ), 0, 0] S1x256x64) (W : FVec Ideal S8x256x64 .f32) (f : Fin 256) (z : Fin 64) :
    slab e h W (ix2 f z) = W (ix3 e f z) := by
  pointwise [slab]
  try blk_ext

theorem biasRow_at (e : Fin 8) (h : S8x64.Slices ![(e : ℕ), 0] S1x64) (B : FVec Ideal S8x64 .f32) (u : Fin 1) (z : Fin 64) :
    biasRow e h B (ix2 u z) = B (ix2 e z) := by
  pointwise [biasRow]
  try blk_ext

theorem half_at (e : Fin 8) (h : S8x256x64.Slices ![(e : ℕ), 0, 0] S1x256x64) (h' : S8x64.Slices ![(e : ℕ), 0] S1x64)
    (W : FVec Ideal S8x256x64 .f32) (r : FVec Ideal S8x64 .f32) (wb : FVec Ideal S64x192 .f32) (b : FVec Ideal S64x1 .f32)
    (k : Fin 193) (z : Fin 64) : half (slab e h W) (biasRow e h' r) wb b (ix2 k z) = column W r wb b e z k := by
  pointwise [half]
  simp only [slab_at, biasRow_at]
  unfold column weight bias share
  split
  · rfl
  · have hk : (k : ℕ) - 192 = 0 := by omega
    simp only [hk]
    rfl

theorem tile_at (e : Fin 8) (h : S8x256x64.Slices ![(e : ℕ), 0, 0] S1x256x64) (h' : S8x64.Slices ![(e : ℕ), 0] S1x64)
    (WQ WS : FVec Ideal S8x256x64 .f32) (rQ rS : FVec Ideal S8x64 .f32) (wQ wS : FVec Ideal S64x192 .f32) (bQ bS : FVec Ideal S64x1 .f32)
    (x : S193x128.Idx) (y : S193x1024.Idx) (h0 : (y 0 : ℕ) = x 0) (h1 : (y 1 : ℕ) = 128 * e + x 1) :
    tile (slab e h WQ) (slab e h WS) (biasRow e h' rQ) (biasRow e h' rS) wQ wS bQ bS x = weights WQ WS rQ rS wQ wS bQ bS y := by
  have hx : (x 1 : ℕ) < 128 := (x 1).isLt
  have hd : (y 1 : ℕ) / 128 = e := by omega
  have hm : (y 1 : ℕ) % 128 = x 1 := by omega
  have hy : y 0 = x 0 := Fin.ext h0
  unfold tile weights
  simp only [hd, hm, hy]
  pointwise []
  split <;> exact half_at e h h' _ _ _ _ _ _

section Stores

/-! What each of the eight stores into the scratch writes, one expert each. -/

variable (WQ WS : FVec Ideal S8x256x64 .f32) (rQ rS : FVec Ideal S8x64 .f32) (wQ wS : FVec Ideal S64x192 .f32) (bQ bS : FVec Ideal S64x1 .f32)
  (x : S193x128.Idx) (y : S193x1024.Idx) (h0 : (y 0 : ℕ) = x 0)

include h0

theorem store0 (h1 : (y 1 : ℕ) = x 1) :
    k0_pay7 (F := Ideal) (k0_pay2 WQ rQ wQ bQ) rS (k0_pay3 bS) (k0_pay4 WS) (k0_pay5 WS wS) (k0_pay6 WS wS) x = weights WQ WS rQ rS wQ wS bQ bS y :=
  tile_at 0 slices_S8x256x64_o0_0_0_S1x256x64 slices_S8x64_o0_0_S1x64 WQ WS rQ rS wQ wS bQ bS x y h0 (by omega)

theorem store1 (h1 : (y 1 : ℕ) = 128 + x 1) :
    k0_pay9 (F := Ideal) (k0_pay8 WQ rQ wQ bQ) WS rS wS bS x = weights WQ WS rQ rS wQ wS bQ bS y :=
  tile_at 1 slices_S8x256x64_o1_0_0_S1x256x64 slices_S8x64_o1_0_S1x64 WQ WS rQ rS wQ wS bQ bS x y h0 (by omega)

theorem store2 (h1 : (y 1 : ℕ) = 256 + x 1) :
    k0_pay13 (F := Ideal) rQ (k0_pay10 bQ) (k0_pay11 WQ) (k0_pay12 WQ wQ) WS rS wS bS x = weights WQ WS rQ rS wQ wS bQ bS y :=
  tile_at 2 slices_S8x256x64_o2_0_0_S1x256x64 slices_S8x64_o2_0_S1x64 WQ WS rQ rS wQ wS bQ bS x y h0 (by omega)

theorem store3 (h1 : (y 1 : ℕ) = 384 + x 1) :
    k0_pay16 (F := Ideal) (k0_pay14 WQ rQ wQ bQ) (k0_pay15 WS rS wS bS) x = weights WQ WS rQ rS wQ wS bQ bS y :=
  tile_at 3 slices_S8x256x64_o3_0_0_S1x256x64 slices_S8x64_o3_0_S1x64 WQ WS rQ rS wQ wS bQ bS x y h0 (by omega)

theorem store4 (h1 : (y 1 : ℕ) = 512 + x 1) :
    k0_pay21 (F := Ideal) (k0_pay17 WQ rQ wQ bQ) rS wS (k0_pay18 bS) (k0_pay19 WS) (k0_pay20 WS) x = weights WQ WS rQ rS wQ wS bQ bS y :=
  tile_at 4 slices_S8x256x64_o4_0_0_S1x256x64 slices_S8x64_o4_0_S1x64 WQ WS rQ rS wQ wS bQ bS x y h0 (by omega)

theorem store5 (h1 : (y 1 : ℕ) = 640 + x 1) :
    k0_pay23 (F := Ideal) (k0_pay22 WQ rQ wQ bQ) WS rS wS bS x = weights WQ WS rQ rS wQ wS bQ bS y :=
  tile_at 5 slices_S8x256x64_o5_0_0_S1x256x64 slices_S8x64_o5_0_S1x64 WQ WS rQ rS wQ wS bQ bS x y h0 (by omega)

theorem store6 (h1 : (y 1 : ℕ) = 768 + x 1) :
    k0_pay28 (F := Ideal) rQ wQ (k0_pay24 bQ) (k0_pay25 WQ) (k0_pay26 WQ) (k0_pay27 WQ) WS rS wS bS x = weights WQ WS rQ rS wQ wS bQ bS y :=
  tile_at 6 slices_S8x256x64_o6_0_0_S1x256x64 slices_S8x64_o6_0_S1x64 WQ WS rQ rS wQ wS bQ bS x y h0 (by omega)

theorem store7 (h1 : (y 1 : ℕ) = 896 + x 1) :
    k0_pay33 (F := Ideal) (k0_pay29 WQ rQ wQ bQ) rS (k0_pay30 bS) (k0_pay31 WS) (k0_pay32 WS wS) x = weights WQ WS rQ rS wQ wS bQ bS y :=
  tile_at 7 slices_S8x256x64_o7_0_0_S1x256x64 slices_S8x64_o7_0_S1x64 WQ WS rQ rS wQ wS bQ bS x y h0 (by omega)

end Stores

end Cert.KernelIdeal.Value
end
-- ==== Proof.Routed.lean ====
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- What one grid point stores into its output block. -/
def routed (x : FVec Ideal S192x4096 .bf16) (wall : FVec Ideal S193x1024 .bf16) (eta : IVec S1x4096 32) : FVec Ideal S128x4096 .bf16 :=
  k0_pay1 (F := Ideal) (k0_pay35 x wall) (k0_pay36 x wall) (k0_pay39 (F := Ideal) eta) (k0_pay40 (F := Ideal) eta) (k0_pay41 x wall eta) (k0_pay42 x wall eta)
    (k0_pay43 x wall eta) (k0_pay44 (F := Ideal) eta)

/-- The product of the weights and the channels: the last row of the weights meets the row of ones. -/
theorem product_at (x : FVec Ideal S192x4096 .bf16) (wall : FVec Ideal S193x1024 .bf16) (r : Fin 1024) (n : Fin 4096) :
    k0_pay34 (F := Ideal) x wall (ix2 r n) = ∑ k : Fin 192, wall (ix2 ⟨k, by omega⟩ r) * x (ix2 k n) + wall (ix2 192 r) := by
  pointwise [k0_pay34]
  rw [Fin.sum_univ_one]

/-- A pixel routed to expert `e` receives that expert's 128 rows of the product. -/
theorem routed_at (x : FVec Ideal S192x4096 .bf16) (wall : FVec Ideal S193x1024 .bf16) (eta : IVec S1x4096 32) (j : Fin 128) (n : Fin 4096)
    (e : Fin 8) (he : eta (ix2 0 n) = BitVec.ofNat 32 e) :
    routed x wall eta (ix2 j n)
      = ∑ k : Fin 192, wall (ix2 ⟨k, by omega⟩ ⟨128 * e + j, by omega⟩) * x (ix2 k n) + wall (ix2 192 ⟨128 * e + j, by omega⟩) := by
  rw [← product_at]
  unfold routed
  unfold k0_pay1 k0_pay35 k0_pay36 k0_pay39 k0_pay40 k0_pay41 k0_pay42 k0_pay43 k0_pay44 k0_pay38 k0_pay37
  generalize k0_pay34 (F := Ideal) x wall = P
  pointwise []
  rw [he]
  obtain ⟨e, hlt⟩ := e
  interval_cases e <;> simp [IntOp.andi, IntOp.cmpi, Scalar.select]

end Cert.KernelIdeal.Value
end
-- ==== Proof.Scratch.lean ====
module

public import proofs.«01_k».proof.Proof.Gen.KernelIdeal.Frame
public import proofs.«01_k».proof.Proof.Columns
public import proofs.«01_k».proof.Proof.Routed
public import Idealize.ShloMosaic.Lib.Pipeline.ValueKit
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The composed weights of every expert, from the blocks a grid point is given. -/
abbrev blockWeights (c : Dev nD) (t : Fin cfg0.N) : FVec Ideal S193x1024 .bf16 :=
  weights (iblk m c 2 t) (iblk m c 3 t) (iblk m c 4 t) (iblk m c 5 t) (iblk m c 6 t) (iblk m c 7 t) (iblk m c 8 t) (iblk m c 9 t)

/-- The first point leaves the composed weights in the scratch. -/
theorem scratch_A (c : Dev nD) (t : Fin cfg0.N) (hA : t.val % 2 = 0) : (outsAt0 m c t.val t.isLt).2 = blockWeights m c t := by
  funext y
  rw [outsAt0_A m c t hA]
  dsimp only
  unfold sout0_A_0
  frame_out
  canon_tiles x h
  · exact store7 _ _ _ _ _ _ _ _ x y h0 h1
  · exact store6 _ _ _ _ _ _ _ _ x y h0 h1
  · exact store5 _ _ _ _ _ _ _ _ x y h0 h1
  · exact store4 _ _ _ _ _ _ _ _ x y h0 h1
  · exact store3 _ _ _ _ _ _ _ _ x y h0 h1
  · exact store2 _ _ _ _ _ _ _ _ x y h0 h1
  · exact store1 _ _ _ _ _ _ _ _ x y h0 h1
  · exact store0 _ _ _ _ _ _ _ _ x y h0 h1

/-- The first point's output block. -/
theorem out_A (c : Dev nD) (t : Fin cfg0.N) (hA : t.val % 2 = 0) :
    (outsAt0 m c t.val t.isLt).1 = routed (iblk m c 0 t) (blockWeights m c t) (iblk m c 1 t) := by
  funext y
  rw [outsAt0_A m c t hA]
  frame_out
  show routed (iblk m c 0 t) _ (iblk m c 1 t) y = _
  refine congrFun (congrArg (fun W => routed (iblk m c 0 t) W (iblk m c 1 t)) ?_) y
  rw [View.readCov_eq_canon']
  funext y
  refine (congrArg _ (Rect.emb_unit_full _ y)).trans ?_
  canon_tiles x h
  · exact store7 _ _ _ _ _ _ _ _ x y h0 h1
  · exact store6 _ _ _ _ _ _ _ _ x y h0 h1
  · exact store5 _ _ _ _ _ _ _ _ x y h0 h1
  · exact store4 _ _ _ _ _ _ _ _ x y h0 h1
  · exact store3 _ _ _ _ _ _ _ _ x y h0 h1
  · exact store2 _ _ _ _ _ _ _ _ x y h0 h1
  · exact store1 _ _ _ _ _ _ _ _ x y h0 h1
  · exact store0 _ _ _ _ _ _ _ _ x y h0 h1

/-- The second point's output block, over what the first left in the scratch. -/
theorem out_B (c : Dev nD) (t : Fin cfg0.N) (h : ¬t.val % 2 = 0) :
    (outsAt0 m c t.val t.isLt).1
      = routed (iblk m c 0 t) (outsAt0 m c (t.val - 1) (Nat.lt_of_le_of_lt (Nat.sub_le _ _) t.isLt)).2 (iblk m c 1 t) := by
  funext y
  rw [outsAt0_B m c t h]
  frame_out
  simp only [Idealize.ShloMosaic.read_unread_whole]
  rfl

end Cert.KernelIdeal.Value
end
-- ==== Proof.Blocks.lean ====
module

public import proofs.«01_k».proof.Proof.Scratch
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- Which block every grid point is given of each array: the pixel windows advance, all others stay. -/
theorem idx : ∀ t : Fin cfg0.N, win0_0.index t = ![0, t.val] ∧ win0_1.index t = ![0, t.val] ∧ win0_2.index t = ![0, 0, 0]
    ∧ win0_3.index t = ![0, 0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, t.val] :=
  (by decide +kernel : ∀ t : Fin grid0.N, _)

theorem iblk2 (c : Dev nD) (t : Fin cfg0.N) : iblk m c 2 t = m ((c : Thread nD τ).loc main_arg8) := by blk_ext! [iblk, V, idx t]
theorem iblk3 (c : Dev nD) (t : Fin cfg0.N) : iblk m c 3 t = m ((c : Thread nD τ).loc main_arg10) := by blk_ext! [iblk, V, idx t]
theorem iblk4 (c : Dev nD) (t : Fin cfg0.N) : iblk m c 4 t = m ((c : Thread nD τ).loc main_arg9) := by blk_ext! [iblk, V, idx t]
theorem iblk5 (c : Dev nD) (t : Fin cfg0.N) : iblk m c 5 t = m ((c : Thread nD τ).loc main_arg11) := by blk_ext! [iblk, V, idx t]
theorem iblk6 (c : Dev nD) (t : Fin cfg0.N) : iblk m c 6 t = m ((c : Thread nD τ).loc main_arg4) := by blk_ext! [iblk, V, idx t]
theorem iblk7 (c : Dev nD) (t : Fin cfg0.N) : iblk m c 7 t = m ((c : Thread nD τ).loc main_arg6) := by blk_ext! [iblk, V, idx t]
theorem iblk8 (c : Dev nD) (t : Fin cfg0.N) : iblk m c 8 t = V m c main_v6 := by blk_ext! [iblk, idx t]
theorem iblk9 (c : Dev nD) (t : Fin cfg0.N) : iblk m c 9 t = V m c main_v7 := by blk_ext! [iblk, idx t]

/-- The composed weights of every expert, from the arrays. -/
def wall (c : Dev nD) : FVec Ideal S193x1024 .bf16 :=
  weights (m ((c : Thread nD τ).loc main_arg8)) (m ((c : Thread nD τ).loc main_arg10)) (m ((c : Thread nD τ).loc main_arg9))
    (m ((c : Thread nD τ).loc main_arg11)) (m ((c : Thread nD τ).loc main_arg4)) (m ((c : Thread nD τ).loc main_arg6))
    (V m c main_v6) (V m c main_v7)

theorem blockWeights_eq (c : Dev nD) (t : Fin cfg0.N) : blockWeights m c t = wall m c := by
  unfold blockWeights wall
  rw [iblk2, iblk3, iblk4, iblk5, iblk6, iblk7, iblk8, iblk9]

/-- Either point's output block routes over the same composed weights. -/
theorem out_eq (c : Dev nD) (t : Fin cfg0.N) :
    (outsAt0 m c t.val t.isLt).1 = routed (iblk m c 0 t) (wall m c) (iblk m c 1 t) := by
  by_cases hA : t.val % 2 = 0
  · rw [out_A m c t hA, blockWeights_eq]
  · rw [out_B m c t hA]
    have hN : t.val < 2 := lt_of_lt_of_eq t.isLt (show cfg0.N = 2 from N_0)
    have hs := scratch_A m c ⟨t.val - 1, Nat.lt_of_le_of_lt (Nat.sub_le _ _) t.isLt⟩ (by show (t.val - 1) % 2 = 0; omega)
    dsimp only at hs
    rw [hs, blockWeights_eq]

/-- The expert a pixel's routing word names. -/
def expert (eta : IVec S1x8192 32) (n : Fin 8192) : Fin 8 := ⟨(eta (ix2 0 n)).toNat % 8, Nat.mod_lt _ (by decide)⟩

/-- The whole output array: every pixel's product with the columns of its expert. -/
def answer (x : FVec Ideal S192x8192 .bf16) (w : FVec Ideal S193x1024 .bf16) (eta : IVec S1x8192 32) : FVec Ideal S128x8192 .bf16 := fun y =>
  ∑ k : Fin 192, w (ix2 ⟨k, by omega⟩ ⟨128 * (expert eta (y 1)).val + (y 0).val, by have h0 : (y 0).val < 128 := (y 0).isLt; omega⟩) * x (ix2 k (y 1))
    + w (ix2 192 ⟨128 * (expert eta (y 1)).val + (y 0).val, by have h0 : (y 0).val < 128 := (y 0).isLt; omega⟩)

/-- The product depends on the expert only. -/
theorem answer_at (x : FVec Ideal S192x8192 .bf16) (w : FVec Ideal S193x1024 .bf16) (eta : IVec S1x8192 32) (j : Fin 128) (n : Fin 8192)
    (e : Fin 8) (he : eta (ix2 0 n) = BitVec.ofNat 32 e) :
    answer x w eta (ix2 j n)
      = ∑ k : Fin 192, w (ix2 ⟨k, by omega⟩ ⟨128 * e + j, by omega⟩) * x (ix2 k n) + w (ix2 192 ⟨128 * e + j, by omega⟩) := by
  have hE : expert eta n = e := by
    apply Fin.ext
    show (eta (ix2 0 n)).toNat % 8 = e.val
    rw [he, BitVec.toNat_ofNat]
    have := e.isLt
    omega
  subst hE
  rfl

/-- A block's product sits in the array's where its pixels do. -/
theorem routed_place (x : FVec Ideal S192x4096 .bf16) (w : FVec Ideal S193x1024 .bf16) (eta : IVec S1x4096 32) (X : FVec Ideal S192x8192 .bf16)
    (Eta : IVec S1x8192 32) (j : Fin 128) (n : Fin 4096) (N : Fin 8192) (hx : ∀ k : Fin 192, x (ix2 k n) = X (ix2 k N))
    (he : eta (ix2 0 n) = Eta (ix2 0 N)) (hr : ∃ e : Fin 8, Eta (ix2 0 N) = BitVec.ofNat 32 e) :
    routed x w eta (ix2 j n) = answer X w Eta (ix2 j N) := by
  obtain ⟨e, h⟩ := hr
  rw [routed_at x w eta j n e (he.trans h), answer_at X w Eta j N e h]
  simp only [hx]

/-- The channels of every pixel, as the kernel's host part lays them out. -/
def image (c : Dev nD) : FVec Ideal S192x8192 .bf16 := V m c main_v4

/-- The routing word of every pixel, as the kernel's host part lays them out. -/
def words (c : Dev nD) : IVec S1x8192 32 := V m c main_v5

theorem iblk0_at (c : Dev nD) (t : Fin cfg0.N) (k : Fin 192) (n : Fin 4096) (h : t.val * 4096 + n.val < 8192) :
    iblk m c 0 t (ix2 k n) = image m c (ix2 k ⟨t.val * 4096 + n, h⟩) := by
  unfold image
  blk_ext [iblk, idx t]

theorem iblk1_at (c : Dev nD) (t : Fin cfg0.N) (n : Fin 4096) (h : t.val * 4096 + n.val < 8192) :
    iblk m c 1 t (ix2 0 n) = words m c (ix2 0 ⟨t.val * 4096 + n, h⟩) := by
  unfold words
  blk_ext [iblk, idx t]

/-- What a grid point stores, at its place in the array. -/
theorem point (c : Dev nD) (t : Fin cfg0.N) (j : Fin 128) (n : Fin 4096) (h : t.val * 4096 + n.val < 8192)
    (hr : ∀ n : Fin 8192, ∃ e : Fin 8, words m c (ix2 0 n) = BitVec.ofNat 32 e) :
    routed (iblk m c 0 t) (wall m c) (iblk m c 1 t) (ix2 j n) = answer (image m c) (wall m c) (words m c) (ix2 j ⟨t.val * 4096 + n, h⟩) :=
  routed_place _ _ _ _ _ j n _ (fun k => iblk0_at m c t k n h) (iblk1_at m c t n h) (hr _)

/-- The output array after the run, when every routing word names an expert. -/
theorem final (c : Dev nD) (hr : ∀ n : Fin 8192, ∃ e : Fin 8, words m c (ix2 0 n) = BitVec.ofNat 32 e) :
    (dats m 0 c).arrAt 10 (cfgs 0).N = answer (image m c) (wall m c) (words m c) := by
  refine (dats m 0 c).arrAt_eq_of_covers 10 _ (by decide +kernel) fun t _ y => ?_
  blk_simp
  rw [after0_10, out_eq]
  have ht : t.val < 2 := lt_of_lt_of_eq t.isLt (show cfg0.N = 2 from N_0)
  have hn : (y 1).val < 4096 := (y 1).isLt
  have hy : (y : S128x4096.Idx) = ix2 (y 0) (y 1) := by blk_ext
  refine ((congrArg _ hy).trans (point m c t (y 0) (y 1) (by omega) hr)).trans (congrArg _ ?_)
  blk_ext [idx t]

end Cert.KernelIdeal.Value
end
-- ==== Proof.Reference.lean ====
module

public import proofs.«01_k».proof.Proof.Gen.ReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- An image of 64 channels with its pixels in one row. -/
def pixels (x : FVec Ideal S64x64x128 .f32) : FVec Ideal S64x8192 .f32 := shapeCast S64x8192 x shapeCasts_S64x64x128_S64x8192

/-- The three images over each other. -/
def stacked (xq xs xt : FVec Ideal S64x8192 .f32) : FVec Ideal S192x8192 .f32 :=
  concatenate S192x8192 0 [⟨S64x8192, xq⟩, ⟨S64x8192, xs⟩, ⟨S64x8192, xt⟩] concatenates_S64x8192_S64x8192_S64x8192_S192x8192_d0

/-- The base prediction. -/
def pred (wb : FVec Ideal S64x192 .f32) (b : FVec Ideal S64 .f32) (x : FVec Ideal S192x8192 .f32) : FVec Ideal S64x8192 .f32 :=
  addf (Host.dotGeneral dot_S64x192_S192x8192_S64x8192_1_0_0_1_n_n none wb x)
    (broadcastInDim S64x8192 ![0, 1] bcast_S64x1_S64x8192_0_1 (broadcastInDim S64x1 ![0] bcast_S64_S64x1_0 b))

/-- The features of a pixel. -/
def features (p xt xq xs : FVec Ideal S64x8192 .f32) : FVec Ideal S8192x256 .f32 :=
  transpose S8192x256 [1, 0]
    (concatenate S256x8192 0 [⟨S64x8192, p⟩, ⟨S64x8192, xt⟩, ⟨S64x8192, xq⟩, ⟨S64x8192, xs⟩]
      concatenates_S64x8192_S64x8192_S64x8192_S64x8192_S256x8192_d0) transposes_S256x8192_S8192x256_1_0

/-- The routing of a pixel. -/
def routing (eta : IVec S64x128 32) : FVec Ideal S8192x8 .f32 :=
  uitofp .f32 (cmpi .eq
    (broadcastInDim S8192x8 ![0, 1] bcast_S8192x1_S8192x8_0_1 (broadcastInDim S8192x1 ![0] bcast_S8192_S8192x1_0
      (shapeCast S8192 eta shapeCasts_S64x128_S8192)))
    (broadcastInDim S8192x8 ![0, 1] bcast_S1x8_S8192x8_0_1 (iotaInDim S1x8 32 1)))

/-- Every expert's answer. -/
def experts (W : FVec Ideal S8x256x64 .f32) (br : FVec Ideal S8x64 .f32) (f : FVec Ideal S8192x256 .f32) : FVec Ideal S8x8192x64 .f32 :=
  addf (transpose S8x8192x64 [0, 2, 1] (Host.dotGeneral dot_S8x256x64_S8192x256_S8x64x8192_1_1_02_0_n_n none W f)
      transposes_S8x64x8192_S8x8192x64_0_2_1)
    (broadcastInDim S8x8192x64 ![0, 1, 2] bcast_S8x1x64_S8x8192x64_0_1_2 (broadcastInDim S8x1x64 ![0, 2] bcast_S8x64_S8x1x64_0_2 br))

/-- One output group. -/
def group (p : FVec Ideal S64x8192 .f32) (r : FVec Ideal S8x8192x64 .f32) (g : FVec Ideal S8192x8 .f32) : FVec Ideal S1x64x64x128 .f32 :=
  broadcastInDim S1x64x64x128 ![1, 2, 3] bcast_S64x64x128_S1x64x64x128_1_2_3 (shapeCast S64x64x128
    (addf p (transpose S64x8192 [1, 0] (Host.dotGeneral dot_S8x8192x64_S8192x8_S8192x64_0_1_2_n_1_0 none r g)
      transposes_S8192x64_S64x8192_1_0)) shapeCasts_S64x8192_S64x64x128)

/-- The reference's result. -/
def result (xq xs xt : FVec Ideal S64x64x128 .f32) (eta : IVec S64x128 32) (wQ : FVec Ideal S64x192 .f32) (bQ : FVec Ideal S64 .f32)
    (wS : FVec Ideal S64x192 .f32) (bS : FVec Ideal S64 .f32) (WQ : FVec Ideal S8x256x64 .f32) (rQ : FVec Ideal S8x64 .f32)
    (WS : FVec Ideal S8x256x64 .f32) (rS : FVec Ideal S8x64 .f32) : FVec Ideal S2x64x64x128 .f32 :=
  concatenate S2x64x64x128 0
    [⟨S1x64x64x128, group (pred wQ bQ (stacked (pixels xq) (pixels xs) (pixels xt)))
        (experts WQ rQ (features (pred wQ bQ (stacked (pixels xq) (pixels xs) (pixels xt))) (pixels xt) (pixels xq) (pixels xs))) (routing eta)⟩,
     ⟨S1x64x64x128, group (pred wS bS (stacked (pixels xq) (pixels xs) (pixels xt)))
        (experts WS rS (features (pred wS bS (stacked (pixels xq) (pixels xs) (pixels xt))) (pixels xt) (pixels xq) (pixels xs))) (routing eta)⟩]
    concatenates_S1x64x64x128_S1x64x64x128_S2x64x64x128_d0

/-- The run's composed term is `result` of the arguments. -/
theorem res_eq (m : (ℓ : Loc nD τ sig) → Buf (Elt Ideal) ℓ) (c : Dev nD) :
    res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  unfold res_out0 res_main_v38
  rfl

/-- A pixel's channels: the three images' values in order. -/
theorem stacked_at (xq xs xt : FVec Ideal S64x64x128 .f32) (k : Fin 192) (n : Fin 8192) :
    stacked (pixels xq) (pixels xs) (pixels xt) (ix2 k n)
      = if h : k.val < 64 then xq (ix3 ⟨k, h⟩ ⟨n / 128, by omega⟩ ⟨n % 128, by omega⟩)
        else if h' : k.val - 64 < 64 then xs (ix3 ⟨k - 64, h'⟩ ⟨n / 128, by omega⟩ ⟨n % 128, by omega⟩)
        else xt (ix3 ⟨k - 64 - 64, by omega⟩ ⟨n / 128, by omega⟩ ⟨n % 128, by omega⟩) := by
  pointwise [stacked, pixels]

/-- The base prediction of a pixel. -/
theorem pred_at (wb : FVec Ideal S64x192 .f32) (b : FVec Ideal S64 .f32) (x : FVec Ideal S192x8192 .f32) (z : Fin 64) (n : Fin 8192) :
    pred wb b x (ix2 z n) = ∑ k : Fin 192, wb (ix2 z k) * x (ix2 k n) + b (ix1 z) := by
  pointwise [pred]

/-- The first 64 features of a pixel are its base prediction. -/
theorem features_pred (p xt xq xs : FVec Ideal S64x8192 .f32) (n : Fin 8192) (f : Fin 64) :
    features p xt xq xs (ix2 n ⟨f, by omega⟩) = p (ix2 f n) := by
  pointwise [features]

/-- The next 64 are the third image's channels, that is the last of the stack. -/
theorem features_last (p xq xs xt : FVec Ideal S64x8192 .f32) (n : Fin 8192) (f : Fin 64) :
    features p xt xq xs (ix2 n ⟨64 + f, by omega⟩) = stacked xq xs xt (ix2 ⟨128 + f, by omega⟩ n) := by
  pointwise [features, stacked]
  rw [dif_neg (by omega), dif_neg (by omega)]
  blk_ext

/-- The last 128 are the other two images' channels, the first of the stack. -/
theorem features_first (p xq xs xt : FVec Ideal S64x8192 .f32) (n : Fin 8192) (f : Fin 128) :
    features p xt xq xs (ix2 n ⟨128 + f, by omega⟩) = stacked xq xs xt (ix2 ⟨f, by omega⟩ n) := by
  pointwise [features, stacked]
  rw [dif_neg (by omega), dif_neg (by omega)]
  by_cases hf : f.val < 64
  · rw [dif_pos (by omega), dif_pos hf]
    blk_ext
  · rw [dif_neg (by omega), dif_neg hf, dif_pos (by omega)]
    blk_ext

/-- The routing of a pixel marks the expert its word names. -/
theorem routing_at (eta : IVec S64x128 32) (n : Fin 8192) (e e' : Fin 8)
    (he : eta (ix2 ⟨n / 128, by omega⟩ ⟨n % 128, by omega⟩) = BitVec.ofNat 32 e) :
    routing eta (ix2 n e') = if e' = e then 1 else 0 := by
  pointwise [routing]
  rw [he]
  have h1 : (1#1 : BitVec 1).toNat = 1 := rfl
  have h0 : (0#1 : BitVec 1).toNat = 0 := rfl
  fin_cases e <;> fin_cases e' <;> simp [IntOp.cmpi, FloatOps.uitofp]

/-- One expert's answer at a pixel. -/
theorem experts_at (W : FVec Ideal S8x256x64 .f32) (br : FVec Ideal S8x64 .f32) (f : FVec Ideal S8192x256 .f32) (e : Fin 8) (n : Fin 8192)
    (z : Fin 64) : experts W br f (ix3 e n z) = ∑ i : Fin 256, W (ix3 e i z) * f (ix2 n i) + br (ix2 e z) := by
  pointwise [experts]

/-- One output group at a pixel whose word names expert `e`: the base prediction and that expert's answer. -/
theorem group_at (p : FVec Ideal S64x8192 .f32) (r : FVec Ideal S8x8192x64 .f32) (eta : IVec S64x128 32) (z : Fin 64) (h : Fin 64) (w : Fin 128)
    (e : Fin 8) (he : eta (ix2 h w) = BitVec.ofNat 32 e) :
    group p r (routing eta) (ix4 0 z h w)
      = p (ix2 z ⟨h * 128 + w, by omega⟩) + r (ix3 e ⟨h * 128 + w, by omega⟩ z) := by
  pointwise [group]
  congr 1
  have hn : eta (ix2 ⟨(h.val * 128 + w.val) / 128, by omega⟩ ⟨(h.val * 128 + w.val) % 128, by omega⟩) = BitVec.ofNat 32 e := by
    rw [← he]
    blk_ext
  rw [Finset.sum_eq_single e]
  · rw [routing_at eta ⟨h * 128 + w, by omega⟩ e e hn, if_pos rfl, mul_one]
  · intro e' _ hne
    rw [routing_at eta ⟨h * 128 + w, by omega⟩ e e' hn, if_neg hne, mul_zero]
  · intro hne
    exact absurd (Finset.mem_univ e) hne

end Cert.ReferenceIdeal.Value
end
-- ==== Proof.Host.lean ====
module

public import proofs.«01_k».proof.Proof.Blocks
public import proofs.«01_k».proof.Proof.Reference
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The kernel's channels are the stack of the three images. -/
theorem image_eq (c : Dev nD) :
    image m c = Cert.ReferenceIdeal.Value.stacked (Cert.ReferenceIdeal.Value.pixels (m ((c : Thread nD τ).loc main_arg0)))
      (Cert.ReferenceIdeal.Value.pixels (m ((c : Thread nD τ).loc main_arg1))) (Cert.ReferenceIdeal.Value.pixels (m ((c : Thread nD τ).loc main_arg2))) := by
  unfold image
  entry_read
  rfl

theorem row_at (v : IVec S64x128 32) (n : Fin 8192) :
    shapeCast S1x8192 v shapeCasts_S64x128_S1x8192 (ix2 0 n) = v (ix2 ⟨n / 128, by omega⟩ ⟨n % 128, by omega⟩) := by
  pointwise

theorem column_at (b : FVec Ideal S64 .f32) (z : Fin 64) : broadcastInDim S64x1 ![0] bcast_S64_S64x1_0 b (ix2 z 0) = b (ix1 z) := by
  pointwise

/-- The routing words are the argument's in one row. -/
theorem words_eq (c : Dev nD) : words m c = shapeCast S1x8192 (m ((c : Thread nD τ).loc main_arg3)) shapeCasts_S64x128_S1x8192 := by
  unfold words
  entry_read
  rfl

/-- The first output's bias, as a column. -/
def columnQ (c : Dev nD) : FVec Ideal S64x1 .f32 := V m c main_v6

/-- The second output's bias, as a column. -/
def columnS (c : Dev nD) : FVec Ideal S64x1 .f32 := V m c main_v7

theorem columnQ_eq (c : Dev nD) : columnQ m c = broadcastInDim S64x1 ![0] bcast_S64_S64x1_0 (m ((c : Thread nD τ).loc main_arg5)) := by
  unfold columnQ
  entry_read
  rfl

theorem columnS_eq (c : Dev nD) : columnS m c = broadcastInDim S64x1 ![0] bcast_S64_S64x1_0 (m ((c : Thread nD τ).loc main_arg7)) := by
  unfold columnS
  entry_read
  rfl

end Cert.KernelIdeal.Value
end
-- ==== Proof.Core.lean ====
module

public import Mathlib.Data.EReal.Operations
public import Mathlib.Algebra.BigOperators.Fin
public import Mathlib.Tactic.Ring
public import Mathlib.Tactic.Linarith

@[expose] public section

namespace Cert.Compose

/-- The sum of real numbers is the same whether it is taken before or after they are read as
    extended reals. -/
theorem coe_sum_fin {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- A real factor goes into the sum of a real number and anything. -/
theorem real_mul_add (a p : ℝ) (b : EReal) : (a : EReal) * ((p : EReal) + b) = (a : EReal) * (p : EReal) + (a : EReal) * b := by
  induction b using EReal.rec with
  | coe b => norm_cast; ring
  | top =>
    rw [EReal.coe_add_top]
    rcases lt_trichotomy a 0 with h | h | h
    · rw [EReal.coe_mul_top_of_neg h, EReal.add_bot]
    · subst h; simp
    · rw [EReal.coe_mul_top_of_pos h, ← EReal.coe_mul, EReal.coe_add_top]
  | bot =>
    rw [EReal.add_bot]
    rcases lt_trichotomy a 0 with h | h | h
    · rw [EReal.coe_mul_bot_of_neg h, ← EReal.coe_mul, EReal.coe_add_top]
    · subst h; simp
    · rw [EReal.coe_mul_bot_of_pos h, EReal.add_bot]

/-- The sum over the 256 features: the 64 predictions, then the 64 channels of the third image,
    then the 128 channels of the first two. -/
theorem sum_features {M : Type} [AddCommMonoid M] (g : Fin 256 → M) :
    ∑ f, g f = ∑ n : Fin 64, g ⟨n, by omega⟩ + (∑ i : Fin 64, g ⟨64 + i, by omega⟩ + ∑ i : Fin 128, g ⟨128 + i, by omega⟩) := by
  rw [show (∑ f : Fin 256, g f) = ∑ f : Fin (64 + (64 + 128)), g f from rfl, Fin.sum_univ_add, Fin.sum_univ_add]
  refine congrArg₂ _ rfl (congrArg₂ _ rfl (Finset.sum_congr rfl fun i _ => congrArg g (Fin.ext ?_)))
  simp only [Fin.val_natAdd]
  omega

/-- The sum over the 192 channels: the 128 of the first two images, then the 64 of the third. -/
theorem sum_channels {M : Type} [AddCommMonoid M] (g : Fin 192 → M) :
    ∑ k, g k = ∑ i : Fin 128, g ⟨i, by omega⟩ + ∑ i : Fin 64, g ⟨128 + i, by omega⟩ := by
  rw [show (∑ k : Fin 192, g k) = ∑ k : Fin (128 + 64), g k from rfl, Fin.sum_univ_add]
  rfl

/-- The identity over the real numbers: applying the composed weights is applying the base weights,
    then the expert's weights to the predictions and to the channels the two share. -/
theorem compose_real (x : Fin 192 → ℝ) (wb : Fin 64 → Fin 192 → ℝ) (w : Fin 256 → ℝ) (sh : Fin 192 → ℝ) (z : Fin 64)
    (hs1 : ∀ k : Fin 128, sh ⟨k, by omega⟩ = w ⟨128 + k, by omega⟩)
    (hs2 : ∀ k : Fin 64, sh ⟨128 + k, by omega⟩ = w ⟨64 + k, by omega⟩) :
    ∑ k, (sh k + wb z k + ∑ n, wb n k * w ⟨n, by omega⟩) * x k
      = ∑ k, wb z k * x k + (∑ n : Fin 64, w ⟨n, by omega⟩ * ∑ k, wb n k * x k
        + (∑ i : Fin 64, w ⟨64 + i, by omega⟩ * x ⟨128 + i, by omega⟩ + ∑ i : Fin 128, w ⟨128 + i, by omega⟩ * x ⟨i, by omega⟩)) := by
  have h1 : ∑ k, sh k * x k = ∑ i : Fin 64, w ⟨64 + i, by omega⟩ * x ⟨128 + i, by omega⟩ + ∑ i : Fin 128, w ⟨128 + i, by omega⟩ * x ⟨i, by omega⟩ := by
    rw [sum_channels, add_comm]
    simp only [hs1, hs2]
  have h2 : ∑ n : Fin 64, w ⟨n, by omega⟩ * ∑ k, wb n k * x k = ∑ k, (∑ n, wb n k * w ⟨n, by omega⟩) * x k := by
    simp only [Finset.mul_sum, Finset.sum_mul]
    rw [Finset.sum_comm]
    refine Finset.sum_congr rfl fun k _ => Finset.sum_congr rfl fun n _ => by ring
  rw [← h1, h2, ← Finset.sum_add_distrib, ← Finset.sum_add_distrib]
  exact Finset.sum_congr rfl fun k _ => by ring

/-- A finite extended real is a real number. -/
theorem exists_real {x : EReal} (h : x < ⊤ ∧ ⊥ < x) : ∃ r : ℝ, (r : EReal) = x :=
  ⟨x.toReal, EReal.coe_toReal h.1.ne h.2.ne'⟩

/-- The identity over the extended reals. The channels and the weights are finite; the biases are anything. -/
theorem compose (x : Fin 192 → EReal) (wb : Fin 64 → Fin 192 → EReal) (w : Fin 256 → EReal) (b : Fin 64 → EReal) (r : EReal)
    (sh : Fin 192 → EReal) (feat : Fin 256 → EReal) (z : Fin 64)
    (hx : ∀ k, x k < ⊤ ∧ ⊥ < x k) (hwb : ∀ n k, wb n k < ⊤ ∧ ⊥ < wb n k) (hw : ∀ f, w f < ⊤ ∧ ⊥ < w f)
    (hs1 : ∀ k : Fin 128, sh ⟨k, by omega⟩ = w ⟨128 + k, by omega⟩)
    (hs2 : ∀ k : Fin 64, sh ⟨128 + k, by omega⟩ = w ⟨64 + k, by omega⟩)
    (hf0 : ∀ n : Fin 64, feat ⟨n, by omega⟩ = ∑ k, wb n k * x k + b n)
    (hf1 : ∀ i : Fin 64, feat ⟨64 + i, by omega⟩ = x ⟨128 + i, by omega⟩)
    (hf2 : ∀ i : Fin 128, feat ⟨128 + i, by omega⟩ = x ⟨i, by omega⟩) :
    ∑ k, (sh k + wb z k + ∑ n, wb n k * w ⟨n, by omega⟩) * x k + (b z + ∑ n, b n * w ⟨n, by omega⟩ + r)
      = (∑ k, wb z k * x k + b z) + (∑ f, w f * feat f + r) := by
  choose x' hx' using fun k => exists_real (hx k)
  choose wb' hwb' using fun n k => exists_real (hwb n k)
  choose w' hw' using fun f => exists_real (hw f)
  have hsh : ∃ sh' : Fin 192 → ℝ, ∀ k, (sh' k : EReal) = sh k := by
    refine ⟨fun k => (sh k).toReal, fun k => ?_⟩
    have : ∃ f, sh k = w f := by
      rcases lt_or_ge k.val 128 with h | h
      · exact ⟨_, hs1 ⟨k, h⟩⟩
      · refine ⟨⟨64 + (k - 128), by omega⟩, ?_⟩
        rw [← hs2 ⟨k - 128, by omega⟩]
        exact congrArg sh (Fin.ext (by simp only; omega))
    obtain ⟨f, hf⟩ := this
    show ((sh k).toReal : EReal) = sh k
    rw [hf, ← hw' f, EReal.toReal_coe]
  obtain ⟨sh', hsh'⟩ := hsh
  have key := compose_real x' wb' w' sh' z
    (fun k => by have := hs1 k; rw [← hsh', ← hw'] at this; exact_mod_cast this)
    (fun k => by have := hs2 k; rw [← hsh', ← hw'] at this; exact_mod_cast this)
  have keyE := congrArg (fun a : ℝ => (a : EReal)) key
  simp only [coe_sum_fin, EReal.coe_add, EReal.coe_mul] at keyE
  rw [sum_features]
  simp only [hf0, hf1, hf2]
  have hd : ∀ n : Fin 64, w ⟨n, by omega⟩ * (∑ k, wb n k * x k + b n) = w ⟨n, by omega⟩ * ∑ k, wb n k * x k + b n * w ⟨n, by omega⟩ := by
    intro n
    have hp : ∑ k, wb n k * x k = ((∑ k, wb' n k * x' k : ℝ) : EReal) := by
      simp only [coe_sum_fin, EReal.coe_mul, hwb', hx']
    rw [hp, ← hw', real_mul_add, EReal.mul_comm (b n)]
  simp only [hd, Finset.sum_add_distrib]
  simp only [← hx', ← hwb', ← hw', ← hsh']
  rw [keyE]
  abel

end Cert.Compose
-- ==== Proof.Equation.lean ====
module

public import proofs.«01_k».proof.Proof.Core
public import proofs.«01_k».proof.Proof.Columns
public import proofs.«01_k».proof.Proof.Reference

@[expose] public section

set_option maxRecDepth 16384

noncomputable section

open Idealize.ShloMosaic Idealize.ShloMosaic.TcCoe Idealize.SL.Sem

namespace Cert.Equation

open Cert.KernelIdeal Cert.KernelIdeal.Value
open Cert.ReferenceIdeal.Value (stacked pred features experts)

/-- An expert's shares of the first 128 channels are the last 128 rows of its table. -/
theorem share_first (W : FVec Ideal S8x256x64 .f32) (e : Fin 8) (z : Fin 64) (k : Fin 128) :
    share W e z ⟨k, by omega⟩ = W (ix3 e ⟨128 + k, by omega⟩ z) := by
  unfold share
  by_cases h : k.val < 64
  · rw [dif_pos h]
  · rw [dif_neg h, dif_pos (by simp only; omega)]
    congr 3
    simp only
    omega

/-- Its shares of the last 64 are the second 64 rows. -/
theorem share_last (W : FVec Ideal S8x256x64 .f32) (e : Fin 8) (z : Fin 64) (k : Fin 64) :
    share W e z ⟨128 + k, by omega⟩ = W (ix3 e ⟨64 + k, by omega⟩ z) := by
  unfold share
  rw [dif_neg (by simp only; omega), dif_neg (by simp only; omega)]
  congr 3
  simp only
  omega

/-- One pixel of one output: the composed column of its expert gives the base prediction and that expert's answer. -/
theorem pixel (W : FVec Ideal S8x256x64 .f32) (r : FVec Ideal S8x64 .f32) (wb : FVec Ideal S64x192 .f32) (bb : FVec Ideal S64x1 .f32)
    (b : FVec Ideal S64 .f32) (xq xs xt : FVec Ideal Cert.ReferenceIdeal.S64x8192 .f32) (e : Fin 8) (z : Fin 64) (n : Fin 8192)
    (hb : ∀ z : Fin 64, bb (ix2 z 0) = b (ix1 z))
    (hx : ∀ k : Fin 192, stacked xq xs xt (ix2 k n) < ⊤ ∧ ⊥ < stacked xq xs xt (ix2 k n))
    (hwb : ∀ (n : Fin 64) (k : Fin 192), wb (ix2 n k) < ⊤ ∧ ⊥ < wb (ix2 n k))
    (hW : ∀ f : Fin 256, W (ix3 e f z) < ⊤ ∧ ⊥ < W (ix3 e f z)) :
    ∑ k : Fin 192, column W r wb bb e z ⟨k, by omega⟩ * stacked xq xs xt (ix2 k n) + column W r wb bb e z 192
      = pred wb b (stacked xq xs xt) (ix2 z n)
        + experts W r (features (pred wb b (stacked xq xs xt)) xt xq xs) (ix3 e n z) := by
  have hk : ∀ k : Fin 192, column W r wb bb e z ⟨k, by omega⟩ = weight W wb e z k := fun k => dif_pos k.isLt
  have h192 : column W r wb bb e z 192 = bias W r bb e z := dif_neg (by decide)
  simp only [hk, h192, weight, bias, hb]
  rw [Cert.ReferenceIdeal.Value.pred_at, Cert.ReferenceIdeal.Value.experts_at]
  exact Cert.Compose.compose (fun k => stacked xq xs xt (ix2 k n)) (fun n k => wb (ix2 n k)) (fun f => W (ix3 e f z)) (fun n => b (ix1 n))
    (r (ix2 e z)) (share W e z) (fun f => features (pred wb b (stacked xq xs xt)) xt xq xs (ix2 n f)) z hx hwb hW
    (share_first W e z) (share_last W e z)
    (fun i => (Cert.ReferenceIdeal.Value.features_pred _ _ _ _ n i).trans (Cert.ReferenceIdeal.Value.pred_at _ _ _ i n))
    (fun i => Cert.ReferenceIdeal.Value.features_last _ _ _ _ n i)
    (fun i => Cert.ReferenceIdeal.Value.features_first _ _ _ _ n i)

end Cert.Equation
end
-- ==== Proof.Pre.lean ====
module

public import proofs.«01_k».proof.Defs
public import Idealize.ShloMosaic.Lib.Pointwise

@[expose] public section

set_option maxRecDepth 16384

noncomputable section

open Idealize.ShloMosaic Idealize.ShloMosaic.TcCoe Idealize.SL.Sem

namespace Cert.Precondition

open Cert.Pre_finite_and_routed

/-- The shapes broadcast from one number. -/
theorem facts : Cert.Pre_finite_and_routed.Facts := by
  constructor <;> decide

/-- A number that is neither infinity. -/
def Finite (v : EReal) : Prop := v < ⊤ ∧ ⊥ < v

/-- Both halves of a conjunction of two marks that is set are set. -/
theorem both {p q : BitVec 1} (h : IntOp.andi p q = 1#1) : p = 1#1 ∧ q = 1#1 := by
  revert p q
  decide

/-- A value marked as below the largest and above the smallest is finite. -/
theorem finite_of {v : Ideal .f32} (h : IntOp.andi (FloatOps.cmpf (F := Ideal) (φ := .f32) .olt v (FloatOps.ofBits .f32 0x7F800000#32))
    (FloatOps.cmpf (F := Ideal) (φ := .f32) .ogt v (FloatOps.ofBits .f32 0xFF800000#32)) = 1#1) : (v : EReal) < ⊤ ∧ (⊥ : EReal) < v := by
  obtain ⟨h1, h2⟩ := both h
  have ht : Ideal.ofBits .f32 0x7F800000#32 = ⊤ := by simp [Ideal.ofBits, Ideal.ieee]
  have hb : Ideal.ofBits .f32 0xFF800000#32 = ⊥ := by simp [Ideal.ofBits, Ideal.ieee]
  change BitVec.ofBool (decide ((v : EReal) < Ideal.ofBits .f32 0x7F800000#32)) = 1#1 at h1
  change BitVec.ofBool (decide (Ideal.ofBits .f32 0xFF800000#32 < (v : EReal))) = 1#1 at h2
  rw [ht] at h1
  rw [hb] at h2
  constructor
  · by_contra hn
    simp [hn] at h1
  · by_contra hn
    simp [hn] at h2

/-- A word marked as at least 0 and below 8 names an expert. -/
theorem expert_of {w : BitVec 32} (h : IntOp.andi (IntOp.cmpi .sge w 0#32) (IntOp.cmpi .slt w 8#32) = 1#1) : ∃ e : Fin 8, w = BitVec.ofNat 32 e := by
  obtain ⟨h1, h2⟩ := both h
  have h1' : (0#32 : BitVec 32).sle w = true := by
    cases hc : (0#32 : BitVec 32).sle w with
    | true => rfl
    | false => simp [IntOp.cmpi, hc] at h1
  have h2' : w.slt 8#32 = true := by
    cases hc : w.slt 8#32 with
    | true => rfl
    | false => simp [IntOp.cmpi, hc] at h2
  have hlt : w.toNat < 8 := by
    rw [BitVec.sle_eq_decide, decide_eq_true_eq] at h1'
    rw [BitVec.slt_eq_decide, decide_eq_true_eq] at h2'
    simp [BitVec.toInt_eq_toNat_cond] at h1' h2'
    omega
  exact ⟨⟨w.toNat, hlt⟩, by simp⟩

variable [Cert.Pre_finite_and_routed.Facts]

section Arrays

variable {m : (ℓ : Loc Cert.KernelIdeal.nD Cert.KernelIdeal.τ Cert.KernelIdeal.sig) → Buf (Elt Ideal) ℓ} (h : Cert.Pre_KernelIdeal_finite_and_routed m)
  (c : Dev Cert.KernelIdeal.nD)

include h

theorem first (i : S64x64x128.Idx) : Finite ((m ((c.tc : Thread Cert.KernelIdeal.nD Cert.KernelIdeal.τ).loc Cert.KernelIdeal.main_arg0) : FVec Ideal S64x64x128 .f32) i) :=
  finite_of (congrFun (h c).1 i)

theorem second (i : S64x64x128.Idx) : Finite ((m ((c.tc : Thread Cert.KernelIdeal.nD Cert.KernelIdeal.τ).loc Cert.KernelIdeal.main_arg1) : FVec Ideal S64x64x128 .f32) i) :=
  finite_of (congrFun (h c).2.1 i)

theorem third (i : S64x64x128.Idx) : Finite ((m ((c.tc : Thread Cert.KernelIdeal.nD Cert.KernelIdeal.τ).loc Cert.KernelIdeal.main_arg2) : FVec Ideal S64x64x128 .f32) i) :=
  finite_of (congrFun (h c).2.2.1 i)

theorem words (i : S64x128.Idx) : ∃ e : Fin 8, ((m ((c.tc : Thread Cert.KernelIdeal.nD Cert.KernelIdeal.τ).loc Cert.KernelIdeal.main_arg3) : IVec S64x128 32) i) = BitVec.ofNat 32 e :=
  expert_of (congrFun (h c).2.2.2.1 i)

theorem baseQ (i : S64x192.Idx) : Finite ((m ((c.tc : Thread Cert.KernelIdeal.nD Cert.KernelIdeal.τ).loc Cert.KernelIdeal.main_arg4) : FVec Ideal S64x192 .f32) i) :=
  finite_of (congrFun (h c).2.2.2.2.1 i)

theorem baseS (i : S64x192.Idx) : Finite ((m ((c.tc : Thread Cert.KernelIdeal.nD Cert.KernelIdeal.τ).loc Cert.KernelIdeal.main_arg6) : FVec Ideal S64x192 .f32) i) :=
  finite_of (congrFun (h c).2.2.2.2.2.1 i)

theorem ratioQ (i : S8x256x64.Idx) : Finite ((m ((c.tc : Thread Cert.KernelIdeal.nD Cert.KernelIdeal.τ).loc Cert.KernelIdeal.main_arg8) : FVec Ideal S8x256x64 .f32) i) :=
  finite_of (congrFun (h c).2.2.2.2.2.2.1 i)

theorem ratioS (i : S8x256x64.Idx) : Finite ((m ((c.tc : Thread Cert.KernelIdeal.nD Cert.KernelIdeal.τ).loc Cert.KernelIdeal.main_arg10) : FVec Ideal S8x256x64 .f32) i) :=
  finite_of (congrFun (h c).2.2.2.2.2.2.2 i)

end Arrays

end Cert.Precondition
end
-- ==== Proof.Result.lean ====
module

public import proofs.«01_k».proof.Proof.Host
public import proofs.«01_k».proof.Proof.Equation
public import proofs.«01_k».proof.Proof.Pre

@[expose] public section

set_option maxRecDepth 16384

noncomputable section

open Idealize.ShloMosaic Idealize.ShloMosaic.TcCoe Idealize.SL.Sem

namespace Cert.Equation

open Cert.KernelIdeal Cert.KernelIdeal.Gen Cert.KernelIdeal.Value
open Cert.ReferenceIdeal.Value (pixels stacked pred features experts routing group result)

/-- The kernel's result, from its output array. -/
def delivered (A : FVec Ideal S128x8192 .bf16) : FVec Ideal S2x64x64x128 .f32 :=
  shapeCast S2x64x64x128 (extf .f32 A bitsLt_bf16_f32) shapeCasts_S128x8192_S2x64x64x128

theorem delivered_at (A : FVec Ideal S128x8192 .bf16) (v : Fin 2) (z h : Fin 64) (w : Fin 128) :
    delivered A (ix4 v z h w) = A (ix2 ⟨v * 64 + z, by omega⟩ ⟨h * 128 + w, by omega⟩) := by
  pointwise [delivered]

/-- The first output group of the result. -/
theorem result_first (xq xs xt : FVec Ideal S64x64x128 .f32) (eta : IVec S64x128 32) (wQ : FVec Ideal S64x192 .f32) (bQ : FVec Ideal S64 .f32)
    (wS : FVec Ideal S64x192 .f32) (bS : FVec Ideal S64 .f32) (WQ : FVec Ideal S8x256x64 .f32) (rQ : FVec Ideal S8x64 .f32)
    (WS : FVec Ideal S8x256x64 .f32) (rS : FVec Ideal S8x64 .f32) (z h : Fin 64) (w : Fin 128) :
    result xq xs xt eta wQ bQ wS bS WQ rQ WS rS (ix4 0 z h w)
      = group (pred wQ bQ (stacked (pixels xq) (pixels xs) (pixels xt)))
        (experts WQ rQ (features (pred wQ bQ (stacked (pixels xq) (pixels xs) (pixels xt))) (pixels xt) (pixels xq) (pixels xs))) (routing eta)
        (ix4 0 z h w) := by
  pointwise [result]

/-- The second output group of the result. -/
theorem result_second (xq xs xt : FVec Ideal S64x64x128 .f32) (eta : IVec S64x128 32) (wQ : FVec Ideal S64x192 .f32) (bQ : FVec Ideal S64 .f32)
    (wS : FVec Ideal S64x192 .f32) (bS : FVec Ideal S64 .f32) (WQ : FVec Ideal S8x256x64 .f32) (rQ : FVec Ideal S8x64 .f32)
    (WS : FVec Ideal S8x256x64 .f32) (rS : FVec Ideal S8x64 .f32) (z h : Fin 64) (w : Fin 128) :
    result xq xs xt eta wQ bQ wS bS WQ rQ WS rS (ix4 1 z h w)
      = group (pred wS bS (stacked (pixels xq) (pixels xs) (pixels xt)))
        (experts WS rS (features (pred wS bS (stacked (pixels xq) (pixels xs) (pixels xt))) (pixels xt) (pixels xq) (pixels xs))) (routing eta)
        (ix4 0 z h w) := by
  pointwise [result]

/-- The scratch's column of the first output group. -/
theorem weights_first (WQ WS : FVec Ideal S8x256x64 .f32) (rQ rS : FVec Ideal S8x64 .f32) (wQ wS : FVec Ideal S64x192 .f32)
    (bQ bS : FVec Ideal S64x1 .f32) (k : Fin 193) (e : Fin 8) (z : Fin 64) (y : Fin 1024) (hy : y.val = 128 * e.val + (z.val)) :
    weights WQ WS rQ rS wQ wS bQ bS (ix2 k y) = column WQ rQ wQ bQ e z k := by
  refine (dif_pos (show y.val % 128 < 64 by omega)).trans ?_
  show column WQ rQ wQ bQ ⟨y.val / 128, _⟩ ⟨y.val % 128, _⟩ k = _
  congr 1
  · exact Fin.ext (show y.val / 128 = e by omega)
  · exact Fin.ext (show y.val % 128 = z by omega)

/-- The scratch's column of the second output group. -/
theorem weights_second (WQ WS : FVec Ideal S8x256x64 .f32) (rQ rS : FVec Ideal S8x64 .f32) (wQ wS : FVec Ideal S64x192 .f32)
    (bQ bS : FVec Ideal S64x1 .f32) (k : Fin 193) (e : Fin 8) (z : Fin 64) (y : Fin 1024) (hy : y.val = 128 * e.val + (64 + z.val)) :
    weights WQ WS rQ rS wQ wS bQ bS (ix2 k y) = column WS rS wS bS e z k := by
  refine (dif_neg (show ¬y.val % 128 < 64 by omega)).trans ?_
  show column WS rS wS bS ⟨y.val / 128, _⟩ ⟨y.val % 128 - 64, _⟩ k = _
  congr 1
  · exact Fin.ext (show y.val / 128 = e by omega)
  · exact Fin.ext (show y.val % 128 - 64 = z by omega)

/-- The stack of finite images is finite. -/
theorem stacked_finite (xq xs xt : FVec Ideal S64x64x128 .f32) (hq : ∀ i, Cert.Precondition.Finite (xq i)) (hs : ∀ i, Cert.Precondition.Finite (xs i))
    (ht : ∀ i, Cert.Precondition.Finite (xt i)) (k : Fin 192) (n : Fin 8192) :
    Cert.Precondition.Finite (stacked (pixels xq) (pixels xs) (pixels xt) (ix2 k n)) := by
  rw [Cert.ReferenceIdeal.Value.stacked_at]
  split_ifs
  · exact hq _
  · exact hs _
  · exact ht _

/-- The kernel's array, made into the result, is the reference's result: over any arrays that are finite and routed. -/
theorem delivered_eq (xq xs xt : FVec Ideal S64x64x128 .f32) (eta : IVec S64x128 32) (wQ : FVec Ideal S64x192 .f32) (bQ : FVec Ideal S64 .f32)
    (wS : FVec Ideal S64x192 .f32) (bS : FVec Ideal S64 .f32) (WQ : FVec Ideal S8x256x64 .f32) (rQ : FVec Ideal S8x64 .f32)
    (WS : FVec Ideal S8x256x64 .f32) (rS : FVec Ideal S8x64 .f32)
    (hq : ∀ i, Cert.Precondition.Finite (xq i)) (hs : ∀ i, Cert.Precondition.Finite (xs i)) (ht : ∀ i, Cert.Precondition.Finite (xt i))
    (he : ∀ i, ∃ e : Fin 8, eta i = BitVec.ofNat 32 e)
    (hwQ : ∀ i, Cert.Precondition.Finite (wQ i)) (hwS : ∀ i, Cert.Precondition.Finite (wS i))
    (hWQ : ∀ i, Cert.Precondition.Finite (WQ i)) (hWS : ∀ i, Cert.Precondition.Finite (WS i)) :
    delivered (answer (stacked (pixels xq) (pixels xs) (pixels xt))
        (weights WQ WS rQ rS wQ wS (broadcastInDim S64x1 ![0] bcast_S64_S64x1_0 bQ) (broadcastInDim S64x1 ![0] bcast_S64_S64x1_0 bS))
        (shapeCast S1x8192 eta shapeCasts_S64x128_S1x8192))
      = result xq xs xt eta wQ bQ wS bS WQ rQ WS rS := by
  funext i
  obtain ⟨v, z, h, w, rfl⟩ : ∃ (v : Fin 2) (z h : Fin 64) (w : Fin 128), i = ix4 v z h w := ⟨i 0, i 1, i 2, i 3, by blk_ext⟩
  obtain ⟨e, hw⟩ := he (ix2 h w)
  have hrow : shapeCast S1x8192 eta shapeCasts_S64x128_S1x8192 (ix2 0 ⟨h * 128 + w, by omega⟩) = BitVec.ofNat 32 e := by
    rw [row_at, ← hw]
    blk_ext
  rw [delivered_at, answer_at _ _ _ _ _ e hrow]
  have hx := stacked_finite xq xs xt hq hs ht
  fin_cases v
  · have key := pixel WQ rQ wQ (broadcastInDim S64x1 ![0] bcast_S64_S64x1_0 bQ) bQ (pixels xq) (pixels xs) (pixels xt) e z ⟨h * 128 + w, by omega⟩
      (column_at bQ) (fun k => hx k _) (fun n k => hwQ _) (fun f => hWQ _)
    refine Eq.trans ?_ ((result_first xq xs xt eta wQ bQ wS bS WQ rQ WS rS z h w).trans
      (Cert.ReferenceIdeal.Value.group_at _ _ eta z h w e hw)).symm
    refine Eq.trans ?_ key
    exact congrArg₂ (· + ·)
      (Finset.sum_congr rfl fun k _ => congrArg (· * _) (weights_first WQ WS rQ rS wQ wS _ _ _ e z _ (by show 128 * e.val + (0 * 64 + z.val) = _; omega)))
      (weights_first WQ WS rQ rS wQ wS _ _ _ e z _ (by show 128 * e.val + (0 * 64 + z.val) = _; omega))
  · have key := pixel WS rS wS (broadcastInDim S64x1 ![0] bcast_S64_S64x1_0 bS) bS (pixels xq) (pixels xs) (pixels xt) e z ⟨h * 128 + w, by omega⟩
      (column_at bS) (fun k => hx k _) (fun n k => hwS _) (fun f => hWS _)
    refine Eq.trans ?_ ((result_second xq xs xt eta wQ bQ wS bS WQ rQ WS rS z h w).trans
      (Cert.ReferenceIdeal.Value.group_at _ _ eta z h w e hw)).symm
    refine Eq.trans ?_ key
    exact congrArg₂ (· + ·)
      (Finset.sum_congr rfl fun k _ => congrArg (· * _) (weights_second WQ WS rQ rS wQ wS _ _ _ e z _ (by show 128 * e.val + (1 * 64 + z.val) = _; omega)))
      (weights_second WQ WS rQ rS wQ wS _ _ _ e z _ (by show 128 * e.val + (1 * 64 + z.val) = _; omega))

/-- The kernel's result is the reference's, from any memory the precondition allows. -/
theorem kernel_eq [Cert.Pre_finite_and_routed.Facts] (m : (ℓ : Loc nD τ sig) → Buf (Elt Ideal) ℓ) (hp : Cert.Pre_KernelIdeal_finite_and_routed m) (c : Dev nD) :
    delivered ((dats m 0 c).arrAt 10 (cfgs 0).N)
      = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := by
  have hr : ∀ n : Fin 8192, ∃ e : Fin 8, words m c (ix2 0 n) = BitVec.ofNat 32 e := by
    intro n
    rw [words_eq, row_at]
    exact Cert.Precondition.words hp c _
  have hw : wall m c = weights (m ((c.tc : Thread nD τ).loc main_arg8)) (m ((c.tc : Thread nD τ).loc main_arg10)) (m ((c.tc : Thread nD τ).loc main_arg9))
      (m ((c.tc : Thread nD τ).loc main_arg11)) (m ((c.tc : Thread nD τ).loc main_arg4)) (m ((c.tc : Thread nD τ).loc main_arg6))
      (broadcastInDim S64x1 ![0] bcast_S64_S64x1_0 (m ((c.tc : Thread nD τ).loc main_arg5)))
      (broadcastInDim S64x1 ![0] bcast_S64_S64x1_0 (m ((c.tc : Thread nD τ).loc main_arg7))) := by
    rw [← columnQ_eq m c, ← columnS_eq m c]
    rfl
  rw [final m c hr, image_eq, words_eq, hw]
  exact delivered_eq _ _ _ _ _ _ _ _ _ _ _ _ (Cert.Precondition.first hp c) (Cert.Precondition.second hp c) (Cert.Precondition.third hp c)
    (Cert.Precondition.words hp c) (Cert.Precondition.baseQ hp c) (Cert.Precondition.baseS hp c) (Cert.Precondition.ratioQ hp c)
    (Cert.Precondition.ratioS hp c)

end Cert.Equation
end
-- ==== Proof.Tail.lean ====
module

public import proofs.«01_k».proof.Proof.Result
public import Idealize.ShloMosaic.Lib.Claim

@[expose] public section

set_option maxRecDepth 16384

noncomputable section

open Idealize.ShloMosaic Idealize.ShloMosaic.TcCoe Idealize.SL.Sem

namespace Cert.Equation

open Cert.KernelIdeal Cert.KernelIdeal.Gen Cert.KernelIdeal.Value

/-- The two host operations after the region widen the output array and give it the result's shape. -/
theorem tail_eq (m : (ℓ : Loc nD τ sig) → Buf (Elt Ideal) ℓ) (c : Dev nD) :
    Pipeline.afterTail₀ cfgs (dats m) 0 (V0 m) [hostOps1] c main_v10 = delivered ((dats m 0 c).arrAt 10 (cfgs 0).N) := by
  unfold Pipeline.afterTail₀
  simp only [List.flatten_cons, List.flatten_nil, List.append_nil]
  after_region_results
  exact congrArg delivered (Pipeline.withArrays_arr (cfgs 0).spec (by decide +kernel : Function.Injective (Pipeline.arrRef spec0)) c
    (V0 m c) (fun w => (dats m 0 c).arrAt w (cfgs 0).N) 10)

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tail
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two idealized programs compute the same result. -/
theorem algebraic : algebraic_KernelIdeal_ReferenceIdeal_pre_finite_and_routed (hKernelIdeal := Cert.KernelIdeal.Gen.facts)
    (hReferenceIdeal := Cert.ReferenceIdeal.Gen.facts) (hPre_finite_and_routed := Cert.Precondition.facts) := by
  pair_intro
  · run_from Cert.KernelIdeal.Gen.unchanged m g & Cert.KernelIdeal.Gen.run_main m g
  · run_from Cert.ReferenceIdeal.Value.run m' g'
    rw [Cert.Equation.tail_eq m c]
    refine Eq.trans ?_ (@Cert.Equation.kernel_eq Cert.Precondition.facts m hpre c).symm
    refine (Cert.ReferenceIdeal.Value.res_eq m' c).trans ?_
    obtain ⟨h0, h1, h2, h3, h4, h5, h6, h7, h8, h9, h10, h11⟩ := hagree c
    rw [h0, h1, h2, h3, h4, h5, h6, h7, h8, h9, h10, h11]

/-- The reference terminates, leaves its arguments as they were and no counter raised. -/
theorem reference_frame : quiescent_ReferenceIdeal (hReferenceIdeal := Cert.ReferenceIdeal.Gen.facts) := fun m g _ => (θ_run _ _ _).mono
  (fun r h => And.intro (fun c => (h c).2) (sem_eq_zero_of_no_sems (by decide) r.2)) (Cert.ReferenceIdeal.Value.run (F := Ideal) m g)

/-- Everything claimed. -/
theorem claim : Cert.Claim := ⟨Cert.Kernel.Gen.facts, Cert.KernelIdeal.Gen.facts, Cert.ReferenceIdeal.Gen.facts, Cert.Precondition.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, algebraic⟩

end Cert.Proof

end
